-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x13312 : Shape := ⟨3, ![6, 1024, 13312]⟩
abbrev S6x1024x1 : Shape := ⟨3, ![6, 1024, 1]⟩
abbrev S13312x16384 : Shape := ⟨2, ![13312, 16384]⟩
abbrev S16384 : Shape := ⟨1, ![16384]⟩
abbrev S6x1024x16384 : Shape := ⟨3, ![6, 1024, 16384]⟩
abbrev S6144x13312 : Shape := ⟨2, ![6144, 13312]⟩
abbrev S6144x1 : Shape := ⟨2, ![6144, 1]⟩
abbrev S1x16384 : Shape := ⟨2, ![1, 16384]⟩
abbrev S6144x16384 : Shape := ⟨2, ![6144, 16384]⟩
abbrev S768x13312 : Shape := ⟨2, ![768, 13312]⟩
abbrev S768x1 : Shape := ⟨2, ![768, 1]⟩
abbrev S13312x1024 : Shape := ⟨2, ![13312, 1024]⟩
abbrev S1x1024 : Shape := ⟨2, ![1, 1024]⟩
abbrev S768x1024 : Shape := ⟨2, ![768, 1024]⟩

abbrev nBuf : Space → Nat
  | .hbm => 11
  | .vmem => 12
  | .smem => 0
  | _ => 0

abbrev bufTy : (tb : Table) → Fin (tcTables nBuf tb) → BufTy
  | .hbm, ⟨0, _⟩ => ⟨S6x1024x13312, .fp8e4m3⟩
  | .hbm, ⟨1, _⟩ => ⟨S6x1024x1, .f32⟩
  | .hbm, ⟨2, _⟩ => ⟨S13312x16384, .fp8e4m3⟩
  | .hbm, ⟨3, _⟩ => ⟨S16384, .f32⟩
  | .hbm, ⟨4, _⟩ => ⟨S6x1024x16384, .bf16⟩
  | .hbm, ⟨5, _⟩ => ⟨S6144x13312, .fp8e4m3⟩
  | .hbm, ⟨6, _⟩ => ⟨S6144x1, .f32⟩
  | .hbm, ⟨7, _⟩ => ⟨S1x16384, .f32⟩
  | .hbm, ⟨8, _⟩ => ⟨S6144x16384, .bf16⟩
  | .hbm, ⟨9, _⟩ => ⟨S6144x16384, .bf16⟩
  | .hbm, ⟨10, _⟩ => ⟨S6x1024x16384, .bf16⟩
  | .local _ .vmem, ⟨0, _⟩ => ⟨S768x13312, .fp8e4m3⟩
  | .local _ .vmem, ⟨1, _⟩ => ⟨S768x13312, .fp8e4m3⟩
  | .local _ .vmem, ⟨2, _⟩ => ⟨S768x1, .f32⟩
  | .local _ .vmem, ⟨3, _⟩ => ⟨S768x1, .f32⟩
  | .local _ .vmem, ⟨4, _⟩ => ⟨S13312x1024, .fp8e4m3⟩
  | .local _ .vmem, ⟨5, _⟩ => ⟨S13312x1024, .fp8e4m3⟩
  | .local _ .vmem, ⟨6, _⟩ => ⟨S1x1024, .f32⟩
  | .local _ .vmem, ⟨7, _⟩ => ⟨S1x1024, .f32⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | _, _ => ⟨S6x1024x13312, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x13312 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S13312x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6x1024x13312 : Shape := ⟨3, ![6, 1024, 13312]⟩
abbrev S6x1024x1 : Shape := ⟨3, ![6, 1024, 1]⟩
abbrev S13312x16384 : Shape := ⟨2, ![13312, 16384]⟩
abbrev S16384 : Shape := ⟨1, ![16384]⟩
abbrev S6x1024x16384 : Shape := ⟨3, ![6, 1024, 16384]⟩
abbrev S1x1x16384 : Shape := ⟨3, ![1, 1, 16384]⟩

abbrev nBuf : Space → Nat
  | .hbm => 6
  | .vmem => 6
  | .smem => 0
  | _ => 0

abbrev bufTy : (tb : Table) → Fin (tcTables nBuf tb) → BufTy
  | .hbm, ⟨0, _⟩ => ⟨S6x1024x13312, .fp8e4m3⟩
  | .hbm, ⟨1, _⟩ => ⟨S6x1024x1, .f32⟩
  | .hbm, ⟨2, _⟩ => ⟨S13312x16384, .fp8e4m3⟩
  | .hbm, ⟨3, _⟩ => ⟨S16384, .f32⟩
  | .hbm, ⟨4, _⟩ => ⟨S6x1024x16384, .bf16⟩
  | .hbm, ⟨5, _⟩ => ⟨S6x1024x16384, .bf16⟩
  | .local _ .vmem, ⟨0, _⟩ => ⟨S6x1024x13312, .fp8e4m3⟩
  | .local _ .vmem, ⟨1, _⟩ => ⟨S6x1024x1, .f32⟩
  | .local _ .vmem, ⟨2, _⟩ => ⟨S13312x16384, .fp8e4m3⟩
  | .local _ .vmem, ⟨3, _⟩ => ⟨S16384, .f32⟩
  | .local _ .vmem, ⟨4, _⟩ => ⟨S6x1024x16384, .bf16⟩
  | .local _ .vmem, ⟨5, _⟩ => ⟨S6x1024x16384, .bf16⟩
  | _, _ => ⟨S6x1024x13312, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x1024x13312 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13312x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1024x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1024x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Payload.lean ====
/-
  What the two bodies compute, read at one index over the extended reals: the kernel's on one block, the reference's on
  the whole arrays.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof.Payload

open Idealize.ShloMosaic
open scoped BigOperators

/-- The kernel's body at row `r` and column `n` of its block: the inner product of the row of codes with the column of
    codes, times the row's scale, times the column's scale, plus the residual. -/
theorem kernel_apply (x : Vec Ideal KernelIdeal.S768x13312 .fp8e4m3) (w : Vec Ideal KernelIdeal.S13312x1024 .fp8e4m3)
    (xs : Vec Ideal KernelIdeal.S768x1 .f32) (ws : Vec Ideal KernelIdeal.S1x1024 .f32)
    (res : Vec Ideal KernelIdeal.S768x1024 .bf16) (j : KernelIdeal.S768x1024.Idx) :
    KernelIdeal.Gen.k0_pay1 (F := Ideal) x w xs ws res j
      = (∑ k : Fin 13312, x (ix2 (j 0) k) * w (ix2 k (j 1))) * xs (ix2 (j 0) 0) * ws (ix2 0 (j 1)) + res j := by
  unfold KernelIdeal.Gen.k0_pay1
  simp only [pointwise]
  rw [zero_add]
  rfl

/-- The reference's body at batch `j 0`, position `j 1` and column `j 2`: the same formula on the whole arrays. -/
theorem reference_apply (x : Vec Ideal ReferenceIdeal.S6x1024x13312 .fp8e4m3) (xs : Vec Ideal ReferenceIdeal.S6x1024x1 .f32)
    (w : Vec Ideal ReferenceIdeal.S13312x16384 .fp8e4m3) (ws : Vec Ideal ReferenceIdeal.S16384 .f32)
    (res : Vec Ideal ReferenceIdeal.S6x1024x16384 .bf16) (j : ReferenceIdeal.S6x1024x16384.Idx) :
    ReferenceIdeal.Gen.k0_pay1 (F := Ideal) x xs w ws res j
      = (∑ k : Fin 13312, x (ix3 (j 0) (j 1) k) * w (ix2 k (j 2))) * xs (ix3 (j 0) (j 1) 0) * ws (ix1 (j 2)) + res j := by
  unfold ReferenceIdeal.Gen.k0_pay1
  simp only [pointwise]
  rw [zero_add]
  rfl

/-- The kernel's body at an index `j` of a block is the reference's at an index `i` of the whole arrays as soon as the
    elements that the formula reads are the same. -/
theorem block_eq (x : Vec Ideal KernelIdeal.S768x13312 .fp8e4m3) (w : Vec Ideal KernelIdeal.S13312x1024 .fp8e4m3)
    (xs : Vec Ideal KernelIdeal.S768x1 .f32) (ws : Vec Ideal KernelIdeal.S1x1024 .f32)
    (res : Vec Ideal KernelIdeal.S768x1024 .bf16)
    (x' : Vec Ideal ReferenceIdeal.S6x1024x13312 .fp8e4m3) (xs' : Vec Ideal ReferenceIdeal.S6x1024x1 .f32)
    (w' : Vec Ideal ReferenceIdeal.S13312x16384 .fp8e4m3) (ws' : Vec Ideal ReferenceIdeal.S16384 .f32)
    (res' : Vec Ideal ReferenceIdeal.S6x1024x16384 .bf16)
    (j : KernelIdeal.S768x1024.Idx) (i : ReferenceIdeal.S6x1024x16384.Idx)
    (hx : ∀ k : Fin 13312, x (ix2 (j 0) k) = x' (ix3 (i 0) (i 1) k))
    (hw : ∀ k : Fin 13312, w (ix2 k (j 1)) = w' (ix2 k (i 2)))
    (hxs : xs (ix2 (j 0) 0) = xs' (ix3 (i 0) (i 1) 0)) (hws : ws (ix2 0 (j 1)) = ws' (ix1 (i 2))) (hres : res j = res' i) :
    KernelIdeal.Gen.k0_pay1 (F := Ideal) x w xs ws res j = ReferenceIdeal.Gen.k0_pay1 (F := Ideal) x' xs' w' ws' res' i := by
  rw [kernel_apply, reference_apply, hxs, hws, hres]
  simp only [hx, hw]

end Cert.Proof.Payload

end
-- ==== Proof.KernelArray.lean ====
/-
  The kernel's result array after its run: the reference's formula of the arguments, at every index.
-/
module

public import proofs.«01_k».proof.Proof.Payload
public import proofs.«01_k».proof.Proof.Gen.KernelIdeal.Frame
public import Idealize.ShloMosaic.Lib.StableHlo.Run
public import Idealize.ShloMosaic.Lib.Pipeline.Value

@[expose] public section

noncomputable section

namespace Cert.Proof.KernelArray

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays when the kernel is entered -/

/-- The kernel's first operand is the codes `x`, the two row axes merged. -/
theorem V_main_v0 (c : Dev nD) :
    V m c main_v0 = shapeCast S6144x13312 (m ((c : Thread nD τ).loc main_arg0)) shapeCasts_S6x1024x13312_S6144x13312 := by
  show StableHlo.after hostOps0 _ (Proc.devRef .tc main_v0) = _
  after_results
  rfl

/-- The kernel's second operand is the row scales, the two row axes merged. -/
theorem V_main_v1 (c : Dev nD) :
    V m c main_v1 = shapeCast S6144x1 (m ((c : Thread nD τ).loc main_arg1)) shapeCasts_S6x1024x1_S6144x1 := by
  show StableHlo.after hostOps0 _ (Proc.devRef .tc main_v1) = _
  after_results
  rfl

/-- The kernel's fourth operand is the column scales as one row. -/
theorem V_main_v2 (c : Dev nD) :
    V m c main_v2 = shapeCast S1x16384 (m ((c : Thread nD τ).loc main_arg3)) shapeCasts_S16384_S1x16384 := by
  show StableHlo.after hostOps0 _ (Proc.devRef .tc main_v2) = _
  after_results
  rfl

/-- The kernel's fifth operand is the residual, the two row axes merged. -/
theorem V_main_v3 (c : Dev nD) :
    V m c main_v3 = shapeCast S6144x16384 (m ((c : Thread nD τ).loc main_arg4)) shapeCasts_S6x1024x16384_S6144x16384 := by
  show StableHlo.after hostOps0 _ (Proc.devRef .tc main_v3) = _
  after_results
  rfl

/-! ## The blocks -/

/-- The block indices of the six windows at grid point `t`: row block `t % 8`, column block `t / 8`. -/
theorem idx_facts : ∀ t : Fin cfg0.N,
    (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = 0 ∧ win0_2.index t (1 : Fin 2) = t.val / 8)
    ∧ (win0_3.index t (0 : Fin 2) = 0 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = t.val / 8) :=
  (by decide +kernel : ∀ t : Fin grid0.N, _)

/-- A grid point is one of 128. -/
theorem lt_points (t : Fin cfg0.N) : t.val < 128 := by
  have h : t.val < cfg0.N := t.isLt
  have e : cfg0.N = 128 := N_0
  omega

/-- The array row of row `r` of point `t`'s block. -/
def row (t : Fin cfg0.N) (r : Fin 768) : Fin 6144 := ⟨t.val % 8 * 768 + r.val, by omega⟩

/-- The array column of column `n` of point `t`'s block. -/
def col (t : Fin cfg0.N) (n : Fin 1024) : Fin 16384 :=
  ⟨t.val / 8 * 1024 + n.val, by have := lt_points t; omega⟩

/-- Where an index of point `t`'s block of the codes `x` lies in the array. -/
theorem emb0 (t : Fin cfg0.N) (r : Fin 768) (k : Fin 13312) :
    ((cfg0.win 0).blk t).view.emb (ix2 r k) = ix2 (row t r) k := by
  obtain ⟨⟨e0, e1⟩, -⟩ := idx_facts t
  funext a; apply Fin.ext
  match a with
  | ⟨0, _⟩ => show win0_0.index t (0 : Fin 2) * 768 + 1 * r.val = t.val % 8 * 768 + r.val; omega
  | ⟨1, _⟩ => show win0_0.index t (1 : Fin 2) * 13312 + 1 * k.val = k.val; omega

/-- Where an index of point `t`'s block of the row scales lies in the array. -/
theorem emb1 (t : Fin cfg0.N) (r : Fin 768) (z : Fin 1) :
    ((cfg0.win 1).blk t).view.emb (ix2 r z) = ix2 (row t r) z := by
  obtain ⟨-, ⟨e0, e1⟩, -⟩ := idx_facts t
  funext a; apply Fin.ext
  match a with
  | ⟨0, _⟩ => show win0_1.index t (0 : Fin 2) * 768 + 1 * r.val = t.val % 8 * 768 + r.val; omega
  | ⟨1, _⟩ => show win0_1.index t (1 : Fin 2) * 1 + 1 * z.val = z.val; omega

/-- Where an index of point `t`'s block of the weights lies in the array. -/
theorem emb2 (t : Fin cfg0.N) (k : Fin 13312) (n : Fin 1024) :
    ((cfg0.win 2).blk t).view.emb (ix2 k n) = ix2 k (col t n) := by
  obtain ⟨-, -, ⟨e0, e1⟩, -⟩ := idx_facts t
  funext a; apply Fin.ext
  match a with
  | ⟨0, _⟩ => show win0_2.index t (0 : Fin 2) * 13312 + 1 * k.val = k.val; omega
  | ⟨1, _⟩ => show win0_2.index t (1 : Fin 2) * 1024 + 1 * n.val = t.val / 8 * 1024 + n.val; omega

/-- Where an index of point `t`'s block of the column scales lies in the array. -/
theorem emb3 (t : Fin cfg0.N) (z : Fin 1) (n : Fin 1024) :
    ((cfg0.win 3).blk t).view.emb (ix2 z n) = ix2 z (col t n) := by
  obtain ⟨-, -, -, ⟨e0, e1⟩, -⟩ := idx_facts t
  funext a; apply Fin.ext
  match a with
  | ⟨0, _⟩ => show win0_3.index t (0 : Fin 2) * 1 + 1 * z.val = z.val; omega
  | ⟨1, _⟩ => show win0_3.index t (1 : Fin 2) * 1024 + 1 * n.val = t.val / 8 * 1024 + n.val; omega

/-- Where an index of point `t`'s block of the residual lies in the array. -/
theorem emb4 (t : Fin cfg0.N) (j : S768x1024.Idx) :
    ((cfg0.win 4).blk t).view.emb j = ix2 (row t (j 0)) (col t (j 1)) := by
  obtain ⟨-, -, -, -, ⟨e0, e1⟩, -⟩ := idx_facts t
  funext a; apply Fin.ext
  match a with
  | ⟨0, _⟩ => show win0_4.index t (0 : Fin 2) * 768 + 1 * (j 0).val = t.val % 8 * 768 + (j 0).val; omega
  | ⟨1, _⟩ => show win0_4.index t (1 : Fin 2) * 1024 + 1 * (j 1).val = t.val / 8 * 1024 + (j 1).val; omega

/-- Where an index of point `t`'s block of the result lies in the array. -/
theorem emb5 (t : Fin cfg0.N) (j : S768x1024.Idx) :
    ((cfg0.win 5).blk t).view.emb j = ix2 (row t (j 0)) (col t (j 1)) := by
  obtain ⟨-, -, -, -, -, ⟨e0, e1⟩⟩ := idx_facts t
  funext a; apply Fin.ext
  match a with
  | ⟨0, _⟩ => show win0_5.index t (0 : Fin 2) * 768 + 1 * (j 0).val = t.val % 8 * 768 + (j 0).val; omega
  | ⟨1, _⟩ => show win0_5.index t (1 : Fin 2) * 1024 + 1 * (j 1).val = t.val / 8 * 1024 + (j 1).val; omega

/-! ## The array the kernel writes -/

/-- The reference's formula of the five arguments on device `c`. -/
def target (c : Dev nD) : Vec Ideal S6x1024x16384 .bf16 :=
  ReferenceIdeal.Gen.k0_pay1 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The same with the two row axes merged: what the kernel's own result array is shown to hold. -/
def merged (c : Dev nD) : Vec Ideal S6144x16384 .bf16 :=
  shapeCast S6144x16384 (target m c) shapeCasts_S6x1024x16384_S6144x16384

/-- The batch that a merged row belongs to. -/
def batch (a : Fin 6144) : Fin 6 := ⟨a.val / 1024, by omega⟩

/-- The position of a merged row in its batch. -/
def pos (a : Fin 6144) : Fin 1024 := ⟨a.val % 1024, by omega⟩

/-- The block of the codes `x` at an index, by the argument. -/
theorem iblk0_apply (c : Dev nD) (t : Fin cfg0.N) (r : Fin 768) (k : Fin 13312) :
    iblk m c 0 t (ix2 r k) = m ((c : Thread nD τ).loc main_arg0) (ix3 (batch (row t r)) (pos (row t r)) k) := by
  show V m c main_v0 (((cfg0.win 0).blk t).view.emb (ix2 r k)) = _
  rw [emb0, V_main_v0]
  simp only [pointwise]
  rfl

/-- The block of the row scales at an index, by the argument. -/
theorem iblk1_apply (c : Dev nD) (t : Fin cfg0.N) (r : Fin 768) :
    iblk m c 1 t (ix2 r 0) = m ((c : Thread nD τ).loc main_arg1) (ix3 (batch (row t r)) (pos (row t r)) 0) := by
  show V m c main_v1 (((cfg0.win 1).blk t).view.emb (ix2 r 0)) = _
  rw [emb1, V_main_v1]
  simp only [pointwise]
  rfl

/-- The block of the weights at an index, by the argument. -/
theorem iblk2_apply (c : Dev nD) (t : Fin cfg0.N) (k : Fin 13312) (n : Fin 1024) :
    iblk m c 2 t (ix2 k n) = m ((c : Thread nD τ).loc main_arg2) (ix2 k (col t n)) := by
  show V m c main_arg2 (((cfg0.win 2).blk t).view.emb (ix2 k n)) = _
  rw [emb2, V_main_arg2]

/-- The block of the column scales at an index, by the argument. -/
theorem iblk3_apply (c : Dev nD) (t : Fin cfg0.N) (n : Fin 1024) :
    iblk m c 3 t (ix2 0 n) = m ((c : Thread nD τ).loc main_arg3) (ix1 (col t n)) := by
  show V m c main_v2 (((cfg0.win 3).blk t).view.emb (ix2 0 n)) = _
  rw [emb3, V_main_v2]
  simp only [pointwise]

/-- The block of the residual at an index, by the argument. -/
theorem iblk4_apply (c : Dev nD) (t : Fin cfg0.N) (j : S768x1024.Idx) :
    iblk m c 4 t j = m ((c : Thread nD τ).loc main_arg4)
      (ix3 (batch (row t (j 0))) (pos (row t (j 0))) (col t (j 1))) := by
  show V m c main_v3 (((cfg0.win 4).blk t).view.emb j) = _
  rw [emb4, V_main_v3]
  simp only [pointwise]
  rfl

/-- The merged formula at a row and a column, by the unmerged one. -/
theorem merged_apply (c : Dev nD) (a : Fin 6144) (n : Fin 16384) :
    merged m c (ix2 a n) = target m c (ix3 (batch a) (pos a) n) := by
  unfold merged
  simp only [pointwise]
  rfl

/-- The corner of a load or store of a whole block. -/
theorem hz : (![0, 0] : Fin 2 → Nat) = fun _ => 0 := funext fun a => by fin_cases a <;> rfl

/-- What point `t` writes back is its block of the merged formula. -/
theorem flushed_eq (c : Dev nD) (t : Fin cfg0.N) :
    (dats m 0 c).flushed 5 t = ((cfg0.win 5).blk t).view.read (Elt Ideal) (merged m c) := by
  show (cfg0.win 5).cut (grid0.coords t) ((dats m 0 c).after 5 t) = _
  rw [after0_5]
  unfold out0_5
  rw [View.canon_unit_zero hz, View.ld_unit_zero hz, View.ld_unit_zero hz, View.ld_unit_zero hz, View.ld_unit_zero hz,
    View.ld_unit_zero hz]
  funext j
  show k0_pay1 (F := Ideal) (iblk m c 0 t) (iblk m c 2 t) (iblk m c 1 t) (iblk m c 3 t) (iblk m c 4 t) j
    = merged m c (((cfg0.win 5).blk t).view.emb j)
  rw [emb5, merged_apply]
  exact Payload.block_eq _ _ _ _ _ _ _ _ _ _ j _ (fun k => iblk0_apply m c t (j 0) k) (fun k => iblk2_apply m c t k (j 1))
    (iblk1_apply m c t (j 0)) (iblk3_apply m c t (j 1)) (iblk4_apply m c t j)

/-- Every index of the result array is in some point's block. -/
theorem cover (i : S6144x16384.Idx) :
    ∃ t : Fin cfg0.N, (cfg0.win 5).flush t = true ∧ i ∈ ((cfg0.win 5).blk t).view.set := by
  have h0 : (i 0 : Nat) < 6144 := (i 0).isLt
  have h1 : (i 1 : Nat) < 16384 := (i 1).isLt
  have hN : cfg0.N = 128 := N_0
  have ht : (i 1 : Nat) / 1024 * 8 + (i 0 : Nat) / 768 < cfg0.N := by omega
  refine ⟨⟨_, ht⟩, flush0_5 _, ?_⟩
  obtain ⟨-, -, -, -, -, ⟨e0, e1⟩⟩ := idx_facts ⟨_, ht⟩
  show i ∈ ((View.whole main_v4).slice (win0_5.rect (⟨_, ht⟩ : Fin cfg0.N))).set
  rw [View.set_slice_whole, Rect.mem_set_unit]
  intro a
  match a with
  | ⟨0, _⟩ =>
    show win0_5.index _ (0 : Fin 2) * 768 ≤ (i 0 : Nat) ∧ (i 0 : Nat) < win0_5.index _ (0 : Fin 2) * 768 + 768
    rw [e0]; dsimp only; omega
  | ⟨1, _⟩ =>
    show win0_5.index _ (1 : Fin 2) * 1024 ≤ (i 1 : Nat) ∧ (i 1 : Nat) < win0_5.index _ (1 : Fin 2) * 1024 + 1024
    rw [e1]; dsimp only; omega

/-- The kernel's own result array after the run is the merged formula. -/
theorem final (c : Dev nD) : (dats m 0 c).arrAt 5 cfg0.N = merged m c :=
  (dats m 0 c).arrAt_eq_of_cover 5 _ (fun t _ => flushed_eq m c t) cover

/-- The program's result after the reshape that follows the kernel is the reference's formula. -/
theorem result (c : Dev nD) :
    Pipeline.afterTail₀ cfgs (dats m) 0 (V0 m) [hostOps1] c main_v5 = target m c := by
  unfold Pipeline.afterTail₀
  show StableHlo.after hostOps1 _ (Proc.devRef .tc main_v5) = _
  after_results
  have h := (Pipeline.withArrays_arr spec0 launch0.win.arr_inj c (V0 m c)
    (fun w => (dats m 0 c).arrAt w cfg0.N) 5).trans (final m c)
  have h' : Pipeline.withArrays spec0 c (V0 m c) (fun w => (dats m 0 c).arrAt w cfg0.N) (Proc.devRef .tc main_v4)
      = merged m c := h
  show shapeCast S6x1024x16384 (Pipeline.withArrays spec0 c (V0 m c) (fun w => (dats m 0 c).arrAt w cfg0.N)
    (Proc.devRef .tc main_v4)) shapeCasts_S6144x16384_S6x1024x16384 = _
  rw [h']
  funext j
  unfold merged
  simp only [pointwise]

/-- Every run of the kernel program ends with the reference's formula in its result and its arguments as they were. -/
theorem run : θ_run defs (onTc (τ := τ) (main (F := Ideal))) ⟨m, fun _ => 0, ρ⟩ fun r => ∀ c : Dev nD,
      r.2.mem ((c.tc : Thread nD τ).loc main_v5) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.KernelArray

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelArray
public import Idealize.ShloMosaic.Adequacy
public import Idealize.ShloMosaic.Init

@[expose] public section

noncomputable section

namespace Cert.Proof

open Idealize.ShloMosaic Idealize.SL.Sem

/-- From memories that agree on the five arguments, the kernel and the reference both end with the reference's formula of
    those arguments as their result, over the extended reals, and leave the arguments as they were. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelArray.target m c, KernelArray.run m g, ?_⟩
  refine (θ_run (Cert.ReferenceIdeal.defs (F := Ideal)) _ _).mono (fun r h c => ?_)
    (Cert.ReferenceIdeal.Value.run (F := Ideal) m' g')
  obtain ⟨hv, hkept⟩ := h c
  obtain ⟨e0, e1, e2, e3, e4⟩ := hargs c
  refine ⟨hv.trans ?_, hkept⟩
  rw [e0, e1, e2, e3, e4]
  rfl

/-- Everything this directory claims: the three frames, that the idealized kernel is the kernel's idealization, and
    that it computes the reference. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic⟩

end Cert.Proof

end
